-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8x256x37 : Shape := ⟨3, ![8, 256, 37]⟩
abbrev S9022x3072 : Shape := ⟨2, ![9022, 3072]⟩
abbrev S37 : Shape := ⟨1, ![37]⟩
abbrev S_ : Shape := ⟨0, ![]⟩

class Facts : Prop where
  bcast_S_S37 : S_.BroadcastsInDim S37 (![] : Fin 0 → Fin S37.rank)
  bcast_S_S8x256x37 : S_.BroadcastsInDim S8x256x37 (![] : Fin 0 → Fin S8x256x37.rank)
  reducesTo_S8x256x37_S_d0_1_2 : S8x256x37.ReducesTo [0, 1, 2] S_
  h_S_ : 0 < S_.numel
  reducesTo_S37_S_d0 : S37.ReducesTo [0] S_

variable [Facts]

def fn_where {F : FTy → Type} [FloatOps F] (arg0 : IVec S37 1) (arg1 : IVec S_ 32) (arg2 : IVec S37 32) : IVec S37 32 :=
  let v0 : IVec S_ 32 := id arg1
  let v1 : IVec S37 32 := broadcastInDim S37 ![] bcast_S_S37 v0
  let v2 : IVec S37 32 := select arg0 v1 arg2
  v2

def fn_part1 {F : FTy → Type} [FloatOps F] (main_arg2 : IVec S37 32) (main_v9 : IVec S37 32) (main_v15 : IVec S_ 1) : IVec S_ 1 :=
  let main_v16 : IVec S37 1 := cmpi .eq main_arg2 main_v9
  let main_c_7 : IVec S_ 1 := constantI S_ 1 1#1
  let main_v17 : IVec S_ 1 := (fun x v => Host.reduce IntOp.andi x v reducesTo_S37_S_d0 h_S_) main_v16 main_c_7
  let main_v18 : IVec S_ 1 := andi main_v15 main_v17
  main_v18

def fn {F : FTy → Type} [FloatOps F] (main_arg0 : IVec S8x256x37 32) (main_arg1 : FVec F S9022x3072 .f32) (main_arg2 : IVec S37 32) : IVec S_ 1 :=
  let main_v0 : IVec S37 32 := iotaInDim S37 32 0
  let main_c : IVec S_ 32 := constantI S_ 32 0#32
  let main_v1 : IVec S37 32 := broadcastInDim S37 ![] bcast_S_S37 main_c
  let main_v2 : IVec S37 1 := cmpi .eq main_v0 main_v1
  let main_c_0 : IVec S_ 32 := constantI S_ 32 1#32
  let main_v3 : IVec S37 32 := broadcastInDim S37 ![] bcast_S_S37 main_c_0
  let main_v4 : IVec S37 32 := subi main_v0 main_v3
  let main_c_1 : IVec S_ 32 := constantI S_ 32 23#32
  let main_v5 : IVec S37 32 := broadcastInDim S37 ![] bcast_S_S37 main_c_1
  let main_v6 : IVec S37 32 := muli main_v5 main_v4
  let main_c_2 : IVec S_ 32 := constantI S_ 32 8194#32
  let main_v7 : IVec S37 32 := broadcastInDim S37 ![] bcast_S_S37 main_c_2
  let main_v8 : IVec S37 32 := addi main_v7 main_v6
  let main_c_3 : IVec S_ 32 := constantI S_ 32 0#32
  let main_v9 : IVec S37 32 := fn_where (F := F) main_v2 main_c_3 main_v8
  let main_c_4 : IVec S_ 32 := constantI S_ 32 0#32
  let main_v10 : IVec S8x256x37 32 := broadcastInDim S8x256x37 ![] bcast_S_S8x256x37 main_c_4
  let main_v11 : IVec S8x256x37 1 := cmpi .sge main_arg0 main_v10
  let main_c_5 : IVec S_ 32 := constantI S_ 32 21#32
  let main_v12 : IVec S8x256x37 32 := broadcastInDim S8x256x37 ![] bcast_S_S8x256x37 main_c_5
  let main_v13 : IVec S8x256x37 1 := cmpi .slt main_arg0 main_v12
  let main_v14 : IVec S8x256x37 1 := andi main_v11 main_v13
  let main_c_6 : IVec S_ 1 := constantI S_ 1 1#1
  let main_v15 : IVec S_ 1 := (fun x v => Host.reduce IntOp.andi x v reducesTo_S8x256x37_S_d0_1_2 h_S_) main_v14 main_c_6
  fn_part1 (F := F) main_arg2 main_v9 main_v15
-- ==== Kernel.lean ====
abbrev S8x256x37 : Shape := ⟨3, ![8, 256, 37]⟩
abbrev S9022x3072 : Shape := ⟨2, ![9022, 3072]⟩
abbrev S37 : Shape := ⟨1, ![37]⟩
abbrev S2048x37 : Shape := ⟨2, ![2048, 37]⟩
abbrev S24x3072 : Shape := ⟨2, ![24, 3072]⟩
abbrev S2048x3072 : Shape := ⟨2, ![2048, 3072]⟩
abbrev S256x37 : Shape := ⟨2, ![256, 37]⟩
abbrev S256x3072 : Shape := ⟨2, ![256, 3072]⟩
abbrev S856x3072 : Shape := ⟨2, ![856, 3072]⟩
abbrev S_ : Shape := ⟨0, ![]⟩
abbrev S832x3072 : Shape := ⟨2, ![832, 3072]⟩
abbrev S37x856 : Shape := ⟨2, ![37, 856]⟩
abbrev S256x856 : Shape := ⟨2, ![256, 856]⟩
abbrev S1x856 : Shape := ⟨2, ![1, 856]⟩
abbrev S1x24 : Shape := ⟨2, ![1, 24]⟩
abbrev S256x1 : Shape := ⟨2, ![256, 1]⟩
abbrev S256x24 : Shape := ⟨2, ![256, 24]⟩
abbrev S8x256x3072 : Shape := ⟨3, ![8, 256, 3072]⟩

abbrev nBuf : Space → Nat
  | .hbm => 8
  | .vmem => 7
  | .smem => 0
  | _ => 0

abbrev bufTy : (tb : Table) → Fin (tcTables nBuf tb) → BufTy
  | .hbm, ⟨0, _⟩ => ⟨S8x256x37, .i32⟩
  | .hbm, ⟨1, _⟩ => ⟨S9022x3072, .f32⟩
  | .hbm, ⟨2, _⟩ => ⟨S37, .i32⟩
  | .hbm, ⟨3, _⟩ => ⟨S2048x37, .i32⟩
  | .hbm, ⟨4, _⟩ => ⟨S24x3072, .f32⟩
  | .hbm, ⟨5, _⟩ => ⟨S24x3072, .bf16⟩
  | .hbm, ⟨6, _⟩ => ⟨S2048x3072, .f32⟩
  | .hbm, ⟨7, _⟩ => ⟨S8x256x3072, .f32⟩
  | .local _ .vmem, ⟨0, _⟩ => ⟨S256x37, .i32⟩
  | .local _ .vmem, ⟨1, _⟩ => ⟨S256x37, .i32⟩
  | .local _ .vmem, ⟨2, _⟩ => ⟨S24x3072, .bf16⟩
  | .local _ .vmem, ⟨3, _⟩ => ⟨S256x3072, .f32⟩
  | .local _ .vmem, ⟨4, _⟩ => ⟨S256x3072, .f32⟩
  | .local _ .vmem, ⟨5, _⟩ => ⟨S856x3072, .f32⟩
  | .local _ .vmem, ⟨6, _⟩ => ⟨S856x3072, .bf16⟩
  | _, _ => ⟨S8x256x37, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x37 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x256x37 : Shape := ⟨3, ![8, 256, 37]⟩
abbrev S9022x3072 : Shape := ⟨2, ![9022, 3072]⟩
abbrev S37 : Shape := ⟨1, ![37]⟩
abbrev S1x1x37 : Shape := ⟨3, ![1, 1, 37]⟩
abbrev S_ : Shape := ⟨0, ![]⟩
abbrev S8x256x37x1 : Shape := ⟨4, ![8, 256, 37, 1]⟩
abbrev S1 : Shape := ⟨1, ![1]⟩
abbrev S1x1x1x1 : Shape := ⟨4, ![1, 1, 1, 1]⟩
abbrev S8x256x37x3072 : Shape := ⟨4, ![8, 256, 37, 3072]⟩
abbrev S8x256x3072 : Shape := ⟨3, ![8, 256, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8x256x37, .i32⟩
  | .hbm, ⟨1, _⟩ => ⟨S9022x3072, .f32⟩
  | .hbm, ⟨2, _⟩ => ⟨S37, .i32⟩
  | .hbm, ⟨3, _⟩ => ⟨S1x1x37, .i32⟩
  | .hbm, ⟨4, _⟩ => ⟨S8x256x37, .i32⟩
  | .hbm, ⟨5, _⟩ => ⟨S8x256x37, .i32⟩
  | .hbm, ⟨6, _⟩ => ⟨S_, .i32⟩
  | .hbm, ⟨7, _⟩ => ⟨S8x256x37, .i32⟩
  | .hbm, ⟨8, _⟩ => ⟨S8x256x37, .i1⟩
  | .hbm, ⟨9, _⟩ => ⟨S_, .i32⟩
  | .hbm, ⟨10, _⟩ => ⟨S8x256x37, .i32⟩
  | .hbm, ⟨11, _⟩ => ⟨S8x256x37, .i32⟩
  | .hbm, ⟨12, _⟩ => ⟨S8x256x37, .i32⟩
  | .hbm, ⟨13, _⟩ => ⟨S8x256x37x1, .i32⟩
  | .hbm, ⟨14, _⟩ => ⟨S1, .i32⟩
  | .hbm, ⟨15, _⟩ => ⟨S_, .i32⟩
  | .hbm, ⟨16, _⟩ => ⟨S8x256x37x1, .i32⟩
  | .hbm, ⟨17, _⟩ => ⟨S8x256x37x1, .i1⟩
  | .hbm, ⟨18, _⟩ => ⟨S1x1x1x1, .i32⟩
  | .hbm, ⟨19, _⟩ => ⟨S8x256x37x1, .i32⟩
  | .hbm, ⟨20, _⟩ => ⟨S8x256x37x1, .i1⟩
  | .hbm, ⟨21, _⟩ => ⟨S8x256x37x1, .i1⟩
  | .hbm, ⟨22, _⟩ => ⟨S_, .i1⟩
  | .hbm, ⟨23, _⟩ => ⟨S8x256x37, .i1⟩
  | .hbm, ⟨24, _⟩ => ⟨S8x256x37x3072, .f32⟩
  | .hbm, ⟨25, _⟩ => ⟨S8x256x37x3072, .i1⟩
  | .hbm, ⟨26, _⟩ => ⟨S_, .f32⟩
  | .hbm, ⟨27, _⟩ => ⟨S8x256x37x3072, .f32⟩
  | .hbm, ⟨28, _⟩ => ⟨S8x256x37x3072, .f32⟩
  | .hbm, ⟨29, _⟩ => ⟨S_, .f32⟩
  | .hbm, ⟨30, _⟩ => ⟨S8x256x3072, .f32⟩
  | _, _ => ⟨S8x256x37, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Body.lean ====
/-
  The kernel's body at one grid point. At the first point the two copies of table rows land in the rows of one scratch
  buffer and the narrowed rows are kept in a second one; every later point reads the second buffer.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resources: the pipeline's own beside the transfers' counters. -/
local notation "𝕄" => MT nD τ sig Unit (Elt F) ℕ (Pipeline.UD sig nD τ) ℕ

/-- The table left in HBM. -/
abbrev tblM : Memref sig .tc .hbm S9022x3072 .f32 := Memref.whole main_arg1
/-- The scratch buffer the copies land in. -/
abbrev rowM : Memref sig .tc .vmem S856x3072 .f32 := Memref.whole cc0_scratch0
/-- The scratch buffer that keeps the narrowed rows. -/
abbrev keepM : Memref sig .tc .vmem S856x3072 .bf16 := Memref.whole cc0_scratch1

/-- Rows 0 to 23 of the scratch buffer, where the first copy lands. -/
abbrev loM : Memref sig .tc .vmem S24x3072 .f32 :=
  rowM.slice (Rect.unit (s := S856x3072) ![0, 0] S24x3072.size inb_S856x3072_S24x3072_0_0) (fun _ => rfl)
/-- Rows 24 to 855 of the scratch buffer, where the second copy lands. -/
abbrev hiM : Memref sig .tc .vmem S832x3072 .f32 :=
  rowM.slice (Rect.unit (s := S856x3072) ![24, 0] S832x3072.size inb_S856x3072_S832x3072_24_0) (fun _ => rfl)

/-- The contents of a buffer a memref names, on core `c`. -/
abbrev BufAt (c : Dev nD) {sp : Space} {S : Shape} {e : EltTy} (M : Memref sig .tc sp S e) : Type :=
  Buf (Elt F) (M.view.loc (c : Thread nD τ))

/-- The test of the first point, as the body computes it from the coordinate. -/
def atFirst (i : grid0.Coords) : BitVec 1 :=
  Scalar.cmpi .ne (Scalar.extui (Scalar.cmpi .eq (BitVec.ofNat 32 (i 0).val) 0#32)) (0#32 : BitVec 32)

/-- The copied rows, by scratch row: the table's first 24 rows, then its rows from 8184 on. -/
def rows (x : S9022x3072.Idx → Elt F .f32) : S856x3072.Idx → Elt F .f32 := fun y =>
  x fun
    | ⟨0, _⟩ => ⟨if (y 0).val < 24 then (y 0).val else (y 0).val + 8160, by
        have h : (y 0).val < 856 := (y 0).isLt
        show _ < 9022
        split <;> omega⟩
    | ⟨1, _⟩ => y 1

/-- What the second scratch buffer keeps from the first point on: the copied rows, narrowed. -/
def keepOf (x : S9022x3072.Idx → Elt F .f32) : S856x3072.Idx → Elt F .bf16 := k0_pay1 (rows x)

/-- What one grid point leaves in its block of the result: from its block of codes, the last codebook's rows and the
    kept rows. -/
def outOf (x1 : Vec F S256x37 .i32) (x3 : Vec F S24x3072 .bf16) (k : Vec F S856x3072 .bf16) : Vec F S256x3072 .f32 :=
  k0_pay2 (k0_pay5 (iota .tc S37x856 32 [1] iota_S37x856_d1_w32) (k0_pay4 x1)) (k0_pay6 (k0_pay3 x1)) x3 k

/-- The first copy's source: rows 0 to 23 of the table. -/
abbrev srcLo : Memref sig .tc .hbm S24x3072 .f32 :=
  tblM.slice (Rect.unit (s := S9022x3072) ![0, 0] S24x3072.size inb_S9022x3072_S24x3072_0_0) (fun _ => rfl)
/-- The second copy's source: rows 8184 to 9015 of the table. -/
abbrev srcHi : Memref sig .tc .hbm S832x3072 .f32 :=
  tblM.slice (Rect.unit (s := S9022x3072) ![8184, 0] S832x3072.size inb_S9022x3072_S832x3072_8184_0) (fun _ => rfl)

/-- The two windows of the scratch buffer share no element. -/
theorem lo_hi_disjoint : Disjoint loM.view.set hiM.view.set := by
  rw [show loM.view.set = (Rect.unit (s := S856x3072) ![0, 0] S24x3072.size inb_S856x3072_S24x3072_0_0).set from
      View.set_slice_whole _ _,
    show hiM.view.set = (Rect.unit (s := S856x3072) ![24, 0] S832x3072.size inb_S856x3072_S832x3072_24_0).set from
      View.set_slice_whole _ _]
  refine Finset.disjoint_left.mpr fun y hl hh => ?_
  have h1 := (Rect.mem_set_unit.mp hl 0).2
  have h2 := (Rect.mem_set_unit.mp hh 0).1
  simp at h1 h2
  omega

/-- Together they are the whole scratch buffer. -/
theorem lo_hi_union : loM.view.set ∪ hiM.view.set = Finset.univ := by
  rw [show loM.view.set = (Rect.unit (s := S856x3072) ![0, 0] S24x3072.size inb_S856x3072_S24x3072_0_0).set from
      View.set_slice_whole _ _,
    show hiM.view.set = (Rect.unit (s := S856x3072) ![24, 0] S832x3072.size inb_S856x3072_S832x3072_24_0).set from
      View.set_slice_whole _ _]
  refine Finset.eq_univ_iff_forall.mpr fun y => ?_
  have h0 : (y 0).val < 856 := (y 0).isLt
  have h1 : (y 1).val < 3072 := (y 1).isLt
  rw [Finset.mem_union, Rect.mem_set_unit, Rect.mem_set_unit]
  by_cases h : (y 0).val < 24
  · left; intro a; fin_cases a <;> simp <;> omega
  · right; intro a; fin_cases a <;> simp <;> omega

/-- The copied rows, read at the first window: the table's first rows. -/
theorem rows_lo (x : S9022x3072.Idx → Elt F .f32) (y : S24x3072.Idx) :
    rows x (loM.view.emb y) = srcLo.view.read (Elt F) x y := by
  unfold rows
  refine congrArg x (funext fun a => Fin.ext ?_)
  have h0 : (y 0).val < 24 := (y 0).isLt
  fin_cases a
  · show (if 0 + 1 * (y 0).val < 24 then 0 + 1 * (y 0).val else 0 + 1 * (y 0).val + 8160) = 0 + 1 * (y 0).val
    rw [if_pos (by omega)]
  · rfl

/-- The copied rows, read at the second window: the table's rows from 8184 on. -/
theorem rows_hi (x : S9022x3072.Idx → Elt F .f32) (y : S832x3072.Idx) :
    rows x (hiM.view.emb y) = srcHi.view.read (Elt F) x y := by
  unfold rows
  refine congrArg x (funext fun a => Fin.ext ?_)
  fin_cases a
  · show (if 24 + 1 * (y 0).val < 24 then 24 + 1 * (y 0).val else 24 + 1 * (y 0).val + 8160) = 8184 + 1 * (y 0).val
    rw [if_neg (by omega)]; omega
  · rfl

/-- A window of a buffer written whole is that window at any contents that agree with what was written. -/
theorem window_written {Val : EltTy → Type} {U : Type} [URA U] (c : Dev nD) (b : Ref sig .tc) (r : Rect b.ty.shape)
    (f g : b.ty.Contents Val) (w : r.shape.Idx → Val b.ty.elt) (h : ∀ y, g (((View.whole b).slice r).emb y) = w y) :
    ((c : Thread nD τ).loc b ↦[((View.whole b).slice r).set]{fullShare}
        ((View.whole b).slice r).writes Val f [⟨Rect.whole r.shape, w⟩] : sProp (MT nD τ sig Unit Val ℕ U ℕ))
      = ((c : Thread nD τ).loc b ↦[((View.whole b).slice r).set]{fullShare} g) := by
  refine pointsTo_congr fun j hj => ?_
  obtain ⟨y, -, rfl⟩ := Finset.mem_map.mp hj
  exact (View.read_writes_cons_hit ((View.whole b).slice r) f (Rect.whole r.shape) w [] y y
    (Rect.emb_whole_apply r.shape y)).trans (h y).symm

/-- The two windows after the copies are the whole scratch buffer at the copied rows. -/
theorem rows_join (c : Dev nD) (fh : BufAt (F := F) c tblM) (f5 : BufAt (F := F) c rowM) :
    iprop((loM.view.loc (c : Thread nD τ) ↦[loM.view.set]{fullShare}
          loM.view.writes (Elt F) f5 [⟨Rect.whole S24x3072, ReadAs.same.apply (srcLo.view.read (Elt F) fh)⟩])
        ∗ (hiM.view.loc (c : Thread nD τ) ↦[hiM.view.set]{fullShare}
          hiM.view.writes (Elt F) f5 [⟨Rect.whole S832x3072, ReadAs.same.apply (srcHi.view.read (Elt F) fh)⟩]))
      ⊢ (rowM.view.loc (c : Thread nD τ) ↦{fullShare} (rows fh : BufAt (F := F) c rowM) : sProp 𝕄) := by
  have hl := window_written (U := Pipeline.UD sig nD τ) c cc0_scratch0
    (Rect.unit (s := S856x3072) ![0, 0] S24x3072.size inb_S856x3072_S24x3072_0_0) f5 (rows fh)
    (ReadAs.same.apply (srcLo.view.read (Elt F) fh)) (rows_lo fh)
  have hh := window_written (U := Pipeline.UD sig nD τ) c cc0_scratch0
    (Rect.unit (s := S856x3072) ![24, 0] S832x3072.size inb_S856x3072_S832x3072_24_0) f5 (rows fh)
    (ReadAs.same.apply (srcHi.view.read (Elt F) fh)) (rows_hi fh)
  refine BIBase.Entails.trans (BIClass.sep_mono (Entails.of_eq hl) (Entails.of_eq hh)) ?_
  exact (pointsTo_union (ℓ := rowM.view.loc (c : Thread nD τ)) lo_hi_disjoint).2.trans (Entails.of_eq
    (congrArg (fun S => (rowM.view.loc (c : Thread nD τ) ↦[S]{fullShare} (rows fh : BufAt (F := F) c rowM) : sProp 𝕄))
      lo_hi_union))

/-- The whole scratch buffer is its two windows. -/
theorem rows_split (c : Dev nD) (f5 : BufAt (F := F) c rowM) :
    (rowM.view.loc (c : Thread nD τ) ↦{fullShare} f5 : sProp 𝕄)
      ⊢ iprop((loM.view.loc (c : Thread nD τ) ↦[loM.view.set]{fullShare} f5)
        ∗ (hiM.view.loc (c : Thread nD τ) ↦[hiM.view.set]{fullShare} f5)) := by
  exact (Entails.of_eq (congrArg (fun S => (rowM.view.loc (c : Thread nD τ) ↦[S]{fullShare} f5 : sProp 𝕄))
    lo_hi_union.symm)).trans (pointsTo_union (ℓ := rowM.view.loc (c : Thread nD τ)) lo_hi_disjoint).1

/-- A buffer written from end to end holds what was written. -/
theorem whole_written {Val : EltTy → Type} {U : Type} [URA U] (c : Dev nD) (b : Ref sig .tc)
    {off : Fin b.ty.shape.rank → ℕ} (inb : ∀ a, off a + b.ty.shape.size a ≤ b.ty.shape.size a)
    (f w : b.ty.Contents Val) :
    ((c : Thread nD τ).loc b ↦{fullShare}
        (View.whole b).writes Val f [⟨Rect.unit off b.ty.shape.size inb, w⟩] : sProp (MT nD τ sig Unit Val ℕ U ℕ))
      = ((c : Thread nD τ).loc b ↦{fullShare} w) :=
  congrArg (fun g => ((c : Thread nD τ).loc b ↦{fullShare} g : sProp (MT nD τ sig Unit Val ℕ U ℕ)))
    (View.read_writes_full (View.whole b) f inb w [])

/-- The buffer of kept rows, stored from end to end. -/
theorem kept_written (c : Dev nD) (f6 : BufAt (F := F) c keepM) (w : S856x3072.Idx → Elt F .bf16) :
    (keepM.view.loc (c : Thread nD τ) ↦{fullShare}
        keepM.view.writes (Elt F) f6 [⟨Rect.unit ![0, 0] S856x3072.size inb_S856x3072_S856x3072_0_0, w⟩] : sProp 𝕄)
      ⊢ (keepM.view.loc (c : Thread nD τ) ↦{fullShare} (w : BufAt (F := F) c keepM) : sProp 𝕄) :=
  Entails.of_eq (whole_written (U := Pipeline.UD sig nD τ) c cc0_scratch1 (off := ![0, 0])
    inb_S856x3072_S856x3072_0_0 f6 w)

/-- THE FIRST POINT: whatever the scratch buffers hold, the body leaves the copied rows in the first and their narrowed
    form in the second, and its block of the result at `outOf`; both cells are back at zero and the table is as it was. -/
theorem run_first (c : Dev nD) (i : grid0.Coords) (hc : atFirst i = 1#1)
    (arg1 : Memref sig .tc .vmem S256x37 .i32) (harg1 : arg1.IsWhole)
    (arg3 : Memref sig .tc .vmem S24x3072 .bf16) (harg3 : arg3.IsWhole)
    (arg4 : Memref sig .tc .vmem S256x3072 .f32) (harg4 : arg4.IsWhole)
    (x1 : Vec F S256x37 .i32) (x3 : Vec F S24x3072 .bf16) (fh : BufAt (F := F) c tblM)
    (W : Waits sig Unit) (K : PUnit → sProp 𝕄) :
    iprop(owns (c : Thread nD τ) arg1 fullShare x1 ∗ owns (c : Thread nD τ) arg3 fullShare x3
        ∗ (∃ d, owns (c : Thread nD τ) arg4 fullShare d)
        ∗ (∃ f, rowM.view.loc (c : Thread nD τ) ↦{fullShare} f)
        ∗ (∃ f, keepM.view.loc (c : Thread nD τ) ↦{fullShare} f)
        ∗ semVal ((c : Thread nD τ), SemLoc.dma cc0_scratch2.sem) 0
        ∗ semVal ((c : Thread nD τ), SemLoc.dma cc0_scratch3.sem) 0
        ∗ (tblM.view.loc (c : Thread nD τ) ↦{fullShare} fh)
        ∗ owes (c : Thread nD τ) 0 W
        ∗ (iprop(owns (c : Thread nD τ) arg1 fullShare x1 ∗ owns (c : Thread nD τ) arg3 fullShare x3
            ∗ owns (c : Thread nD τ) arg4 fullShare (outOf x1 x3 (keepOf fh))
            ∗ (∃ f, rowM.view.loc (c : Thread nD τ) ↦{fullShare} f)
            ∗ (keepM.view.loc (c : Thread nD τ) ↦{fullShare} (keepOf fh : BufAt (F := F) c keepM))
            ∗ semVal ((c : Thread nD τ), SemLoc.dma cc0_scratch2.sem) 0
            ∗ semVal ((c : Thread nD τ), SemLoc.dma cc0_scratch3.sem) 0
            ∗ (tblM.view.loc (c : Thread nD τ) ↦{fullShare} fh)
            ∗ (∃ W', owes (c : Thread nD τ) 0 W')) -∗ K ⟨⟩))
      ⊢ wp frame (wpE (defs₀ (F := F)) Variants.none c none) Set.univ
          (cc0__body i arg1 harg1 tblM (Memref.isWhole_whole _) arg3 harg3 arg4 harg4 rowM (Memref.isWhole_whole _)
            keepM (Memref.isWhole_whole _) cc0_scratch2 cc0_scratch3) K := by
  unfold atFirst at hc
  rw [cc0__body_eq_skeleton]; unfold cc0__body_skel
  rw [k0_part1_eq_skeleton, k0_part2_eq_skeleton]; unfold k0_part1_skel k0_part2_skel
  unfold owns
  iintro ⟨⟨%f1, %h1, H1⟩, ⟨%f3, %h3, H3⟩, ⟨%d4, %f4, -, H4⟩, ⟨%f5, H5⟩, ⟨%f6, H6⟩, Hs0, Hs1, Ht, HW, Hk⟩
  ihave H5 := (rows_split c f5) $$ H5
  icases H5 with ⟨Hlo, Hhi⟩
  sl_exec
  ihave H5 := (rows_join c fh f5) $$ [Hlo Hhi]
  · isplitl [Hlo]; · iexact Hlo
    iexact Hhi
  sl_exec
  sl_step
  iapply Hk
  isplitl [H1]
  · iexists f1; isplitr; · ipureintro; exact h1
    iexact H1
  isplitl [H3]
  · iexists f3; isplitr; · ipureintro; exact h3
    iexact H3
  isplitl [H4]
  · iexists _; isplitr; swap; · iexact H4
    ipureintro
    rw [View.read_writes_full arg4.view f4, View.readAt_full arg1.view f1, View.readAt_full arg3.view f3, h1, h3]
    unfold outOf keepOf
    have hk : run_first.sl.v95 c fh = k0_pay1 (rows fh) :=
      (View.readCov_full keepM.view _ _ _ []).trans (congrArg k0_pay1 (View.readAt_full rowM.view _ _))
    rw [hk]
    rfl
  isplitl [H5]; · iexists _; iexact H5
  isplitl [H6]
  · unfold run_first.sl.H6_1
    rw [View.readAt_full rowM.view (rows fh : BufAt (F := F) c rowM)]
    iapply (kept_written (F := F) c f6 (k0_pay1 (rows fh)))
    iexact H6
  isplitl [Hs0]; · iexact Hs0
  isplitl [Hs1]; · iexact Hs1
  isplitl [Ht]; · iexact Ht
  iexists _; iexact HW

/-- EVERY LATER POINT: the body reads the kept rows and leaves its block of the result at `outOf`. -/
theorem run_later (c : Dev nD) (i : grid0.Coords) (hc : ¬ atFirst i = 1#1)
    (arg1 : Memref sig .tc .vmem S256x37 .i32) (harg1 : arg1.IsWhole)
    (arg3 : Memref sig .tc .vmem S24x3072 .bf16) (harg3 : arg3.IsWhole)
    (arg4 : Memref sig .tc .vmem S256x3072 .f32) (harg4 : arg4.IsWhole)
    (x1 : Vec F S256x37 .i32) (x3 : Vec F S24x3072 .bf16) (k : BufAt (F := F) c keepM)
    (W : Waits sig Unit) (K : PUnit → sProp 𝕄) :
    iprop(owns (c : Thread nD τ) arg1 fullShare x1 ∗ owns (c : Thread nD τ) arg3 fullShare x3
        ∗ (∃ d, owns (c : Thread nD τ) arg4 fullShare d)
        ∗ (keepM.view.loc (c : Thread nD τ) ↦{fullShare} k)
        ∗ owes (c : Thread nD τ) 0 W
        ∗ (iprop(owns (c : Thread nD τ) arg1 fullShare x1 ∗ owns (c : Thread nD τ) arg3 fullShare x3
            ∗ owns (c : Thread nD τ) arg4 fullShare (outOf x1 x3 k)
            ∗ (keepM.view.loc (c : Thread nD τ) ↦{fullShare} k)
            ∗ (∃ W', owes (c : Thread nD τ) 0 W')) -∗ K ⟨⟩))
      ⊢ wp frame (wpE (defs₀ (F := F)) Variants.none c none) Set.univ
          (cc0__body i arg1 harg1 tblM (Memref.isWhole_whole _) arg3 harg3 arg4 harg4 rowM (Memref.isWhole_whole _)
            keepM (Memref.isWhole_whole _) cc0_scratch2 cc0_scratch3) K := by
  unfold atFirst at hc
  rw [cc0__body_eq_skeleton]; unfold cc0__body_skel
  rw [k0_part1_eq_skeleton, k0_part2_eq_skeleton]; unfold k0_part1_skel k0_part2_skel
  unfold owns
  iintro ⟨⟨%f1, %h1, H1⟩, ⟨%f3, %h3, H3⟩, ⟨%d4, %f4, -, H4⟩, H6, HW, Hk⟩
  sl_exec
  sl_step
  iapply Hk
  isplitl [H1]
  · iexists f1; isplitr; · ipureintro; exact h1
    iexact H1
  isplitl [H3]
  · iexists f3; isplitr; · ipureintro; exact h3
    iexact H3
  isplitl [H4]
  · iexists _; isplitr; swap; · iexact H4
    ipureintro
    rw [View.read_writes_full arg4.view f4, View.readAt_full arg1.view f1, View.readAt_full arg3.view f3, h1, h3,
      View.readAt_full keepM.view k]
    rfl
  isplitl [H6]; · iexact H6
  iexists _; iexact HW

end Cert.KernelIdeal.Hand

end
-- ==== Proof.Run.lean ====
/-
  The run of the whole program: the invariant the grid's points carry, what each point leaves in its blocks, and the
  launch. The kernel's two copies read the table in HBM, so the table belongs to the invariant, beside the scratch
  buffers and the two completion cells.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's layout -/

set_option maxHeartbeats 800000 in
/-- The program around its region, over the resources that count transfers. -/
theorem main_around (𝒱₀ : Variants) :
    Pipeline.HMainK (Ix := Unit) (Name := ℕ) (U := Pipeline.UD sig nD τ) (Lvl := ℕ) cfgs 0 defs₀ 𝒱₀ m (main (F := F))
      (V m) (fun _ => Pipeline.chain ([hostOps1].map StableHlo.seq)) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- The cells the body's two copies complete on. -/
abbrev osem0 : Fin 2 → SemLoc sig := fun j => (![SemLoc.dma cc0_scratch2.sem, SemLoc.dma cc0_scratch3.sem] : Fin 2 → SemLoc sig) j
/-- They are no staging cells. -/
theorem ownSemFacts0 : Pipeline.OwnSemFacts spec0 osem0 := by decide
/-- The two cells at zero, one by one. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch2.sem) 0
          ∗ semVal ((c : Thread nD τ), SemLoc.dma cc0_scratch3.sem) 0) := by
  rw [Pipeline.ownSems0_eq_of_list c osem0 [0, 1] (by decide) (by decide)]; rfl

/-- The operand the body's copies read where it lies: the table. -/
def H0 : Finset (Ref sig .tc) := {main_arg1}
theorem H0_sub : H0 ⊆ Pipeline.restRefs sig spec0 := by decide
/-- The table held at its contents. -/
theorem tbl_eq (c : Dev nD) :
    (bigSep H0 (fun b => ((c : Thread nD τ).loc b) ↦{fullShare} V m c b) : sProp 𝕄)
      = iprop(tblM.view.loc (c : Thread nD τ) ↦{fullShare} (V m c main_arg1 : BufAt (F := F) c tblM)) := by
  rw [BI.bigSep_eq_bigSepL_of_eq [main_arg1] (by decide) (by decide)]; rfl

/-- The line after the region touches no array the body copies from. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  simp only [hostOps1, List.mem_cons, List.mem_nil_iff, or_false] at hop
  subst hop
  refine Pipeline.sub_tailRefsBut _ _ _ _ (StableHlo.reshape_bufs_sub ..) (fun k => k.elim0) fun b hb => ?_
  obtain rfl := Finset.mem_singleton.mp hb
  simp only [StableHlo.reshape_bufs, Finset.mem_insert, Finset.mem_singleton, not_or]
  exact ⟨StableHlo.devRef_ne_of_ne (by decide), StableHlo.devRef_ne_of_ne (by decide)⟩

/-! ## The invariant and the proof data -/

/-- The buffer of kept rows before point `n`: at anything before the first point, then at the kept rows. -/
def kept (c : Dev nD) : ℕ → sProp 𝕄
  | 0 => iprop(∃ f, keepM.view.loc (c : Thread nD τ) ↦{fullShare} f)
  | _ + 1 => iprop(keepM.view.loc (c : Thread nD τ) ↦{fullShare} (keepOf (V m c main_arg1) : BufAt (F := F) c keepM))

/-- What the points carry: the two scratch buffers, the generator, the two cells at zero and the table. -/
def carry (c : Dev nD) (n : ℕ) : sProp 𝕄 :=
  iprop((∃ f, rowM.view.loc (c : Thread nD τ) ↦{fullShare} f) ∗ kept m c n ∗ (∃ r, prngReg c r)
    ∗ semVal ((c : Thread nD τ), SemLoc.dma cc0_scratch2.sem) 0
    ∗ semVal ((c : Thread nD τ), SemLoc.dma cc0_scratch3.sem) 0
    ∗ (tblM.view.loc (c : Thread nD τ) ↦{fullShare} (V m c main_arg1 : BufAt (F := F) c tblM)))

/-- What the launch hands the region, written out. -/
theorem handed_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (∃ r, prngReg c r)
          ∗ (semVal ((c : Thread nD τ), SemLoc.dma cc0_scratch2.sem) 0
            ∗ semVal ((c : Thread nD τ), SemLoc.dma cc0_scratch3.sem) 0)
          ∗ (tblM.view.loc (c : Thread nD τ) ↦{fullShare} (V m c main_arg1 : BufAt (F := F) c tblM))) := by
  rw [Pipeline.ΦD_eq, scopedRest0_eq, ownSems_eq, tbl_eq]

/-- The launch's hand-over is the invariant before the first point. -/
theorem carry_in (c : Dev nD) : (Pipeline.ΦD osem0 spec0 H0 (V m) c : sProp 𝕄) ⊢ carry m c 0 := by
  rw [handed_eq]
  unfold carry kept
  iintro ⟨⟨H5, H6⟩, Hg, ⟨Hs0, Hs1⟩, Ht⟩
  isplitl [H5]; · iexact H5
  isplitl [H6]; · iexact H6
  isplitl [Hg]; · iexact Hg
  isplitl [Hs0]; · iexact Hs0
  isplitl [Hs1]; · iexact Hs1
  iexact Ht

/-- The invariant after a point gives back what the launch handed over. -/
theorem carry_out (c : Dev nD) (n : ℕ) : carry m c (n + 1) ⊢ (Pipeline.ΦD osem0 spec0 H0 (V m) c : sProp 𝕄) := by
  rw [handed_eq]
  unfold carry kept
  iintro ⟨H5, H6, Hg, Hs0, Hs1, Ht⟩
  isplitl [H5 H6]
  · isplitl [H5]; · iexact H5
    iexists _; iexact H6
  isplitl [Hg]; · iexact Hg
  isplitl [Hs0 Hs1]
  · isplitl [Hs0]; · iexact Hs0
    iexact Hs1
  iexact Ht

/-- The proof data: each input block is left as it was, the block of the result ends at `outOf`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outOf (iblk m c 0 t) (iblk m c 1 t) (keepOf (V m c main_arg1))
  Φ t := carry m c t.val
  q _ := fullShare
  owed _ := 0

theorem A_eq (c : Dev nD) (w : Fin cfg0.W) : (dats m 0 c).A w = V m c (Pipeline.arrRef spec0 w) := by
  dsimp only [dats]
theorem after_codes (c : Dev nD) (t : Fin cfg0.N) : (dats m 0 c).after 0 t = iblk m c 0 t := by dsimp only [dats]
theorem after_last (c : Dev nD) (t : Fin cfg0.N) : (dats m 0 c).after 1 t = iblk m c 1 t := by dsimp only [dats]
theorem after_result (c : Dev nD) (t : Fin cfg0.N) :
    (dats m 0 c).after 2 t = outOf (iblk m c 0 t) (iblk m c 1 t) (keepOf (V m c main_arg1)) := by dsimp only [dats]

/-- The codes' staging buffer holds their block at every point. -/
theorem before_codes (c : Dev nD) (t : Fin cfg0.N) (d) : (dats m 0 c).before 0 t d = iblk m c 0 t :=
  ((dats m 0 c).before_in_eq_fetched 0 rfl (fun _ => rfl) (fun _ _ _ => rfl)
      (fun t => by rw [after_codes]; unfold Dat.blockOf iblk; rw [A_eq]; try rfl) t d).trans
    (by unfold Dat.fetched Dat.blockOf iblk; rw [A_eq]; try rfl)
/-- The last codebook's staging buffer holds its rows at every point. -/
theorem before_last (c : Dev nD) (t : Fin cfg0.N) (d) : (dats m 0 c).before 1 t d = iblk m c 1 t :=
  ((dats m 0 c).before_in_eq_fetched 1 rfl (fun _ => rfl) (fun _ _ _ => rfl)
      (fun t => by rw [after_last]; unfold Dat.blockOf iblk; rw [A_eq]; try rfl) t d).trans
    (by unfold Dat.fetched Dat.blockOf iblk; rw [A_eq]; try rfl)

/-! ## The body's obligation -/

/-- The first point is the one whose coordinate is zero. -/
theorem first_iff (t : Fin cfg0.N) : atFirst (cfg0.grid.coords t) = 1#1 ↔ t.val = 0 := by
  rcases fin_N0 t with rfl | rfl | rfl | rfl | rfl | rfl | rfl | rfl <;> decide

/-- What a point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What it ends in. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- Each point's body takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = carry m c (t.val + 1) from rfl,
    show (dats m 0 c).Φ t.castSucc = carry m c t.val from rfl, after_codes, after_last, after_result]
  simp only [before_codes, before_last]
  unfold Dat.owesAt Pipeline.owesWithin
  rw [show (dats m 0 c).owed t.castSucc = 0 from rfl, show (dats m 0 c).owed t.succ = 0 from rfl]
  unfold carry
  rcases Nat.eq_zero_or_pos t.val with h0 | hpos
  · rw [h0]
    unfold kept
    iintro ⟨⟨H5, H6, Hg, Hs0, Hs1, Ht⟩, ⟨%W, -, HW⟩, ⟨%d0, H0⟩, ⟨%d1, H1⟩, ⟨%d2, H2⟩⟩
    iapply (run_first c (cfg0.grid.coords t) ((first_iff t).2 h0) _ _ _ _ _ _ (iblk m c 0 t) (iblk m c 1 t) (V m c main_arg1) W _)
    isplitl [H0]; · iexact H0
    isplitl [H1]; · iexact H1
    isplitl [H2]; · iexists _; iexact H2
    isplitl [H5]; · iexact H5
    isplitl [H6]; · iexact H6
    isplitl [Hs0]; · iexact Hs0
    isplitl [Hs1]; · iexact Hs1
    isplitl [Ht]; · iexact Ht
    isplitl [HW]; · iexact HW
    iintro ⟨H0, H1, H2, H5, H6, Hs0, Hs1, Ht, ⟨%W', HW'⟩⟩
    isplitl [H5 H6 Hg Hs0 Hs1 Ht]
    · isplitl [H5]; · iexact H5
      isplitl [H6]; · iexact H6
      isplitl [Hg]; · iexact Hg
      isplitl [Hs0]; · iexact Hs0
      isplitl [Hs1]; · iexact Hs1
      iexact Ht
    isplitl [HW']
    · iexists W'; isplitr; · ipureintro; exact fun _ _ => Or.inl trivial
      iexact HW'
    isplitl [H0]; · iexact H0
    isplitl [H1]; · iexact H1
    iexact H2
  · obtain ⟨n, hn⟩ : ∃ n, t.val = n + 1 := ⟨t.val - 1, by omega⟩
    rw [hn]
    unfold kept
    iintro ⟨⟨H5, H6, Hg, Hs0, Hs1, Ht⟩, ⟨%W, -, HW⟩, ⟨%d0, H0⟩, ⟨%d1, H1⟩, ⟨%d2, H2⟩⟩
    iapply (run_later c (cfg0.grid.coords t) (fun h => by have := (first_iff t).1 h; omega) _ _ _ _ _ _ (iblk m c 0 t) (iblk m c 1 t)
      (keepOf (V m c main_arg1)) W _)
    isplitl [H0]; · iexact H0
    isplitl [H1]; · iexact H1
    isplitl [H2]; · iexists _; iexact H2
    isplitl [H6]; · iexact H6
    isplitl [HW]; · iexact HW
    iintro ⟨H0, H1, H2, H6, ⟨%W', HW'⟩⟩
    isplitl [H5 H6 Hg Hs0 Hs1 Ht]
    · isplitl [H5]; · iexact H5
      isplitl [H6]; · iexact H6
      isplitl [Hg]; · iexact Hg
      isplitl [Hs0]; · iexact Hs0
      isplitl [Hs1]; · iexact Hs1
      iexact Ht
    isplitl [HW']
    · iexists W'; isplitr; · ipureintro; exact fun _ _ => Or.inl trivial
      iexact HW'
    isplitl [H0]; · iexact H0
    isplitl [H1]; · iexact H1
    iexact H2

/-- The pipeline calls the body on the current staging buffers. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE RUN: the program ends, every array of the pipeline at what the points left in it, every other buffer at what the
    lines after the region make of it, and every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m Variants.none) (hA := A_eq m) (hin := fun c => carry_in m c) (hout := fun c => carry_out m c 7)

/-- A buffer the last line does not write and no window stages ends as the region found it. -/
theorem ends_as_found (c : Dev nD) (b : Ref sig .tc) (hb : b ≠ main_v2) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hb)),
    Pipeline.withArrays_of_ne _ c (V0 m c) _ b hw]

/-- THE FRAME: the program ends, its three arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans
        ((ends_as_found m c main_arg0 (by decide) (by decide)).trans (V_main_arg0 m c)),
      ((h.1 c).2 main_arg1 (Pipeline.mem_restRefs_of main_arg1 (by decide) (by decide))).trans
        ((ends_as_found m c main_arg1 (by decide) (by decide)).trans (V_main_arg1 m c)),
      ((h.1 c).2 main_arg2 (Pipeline.mem_restRefs_of main_arg2 (by decide) (by decide))).trans
        ((ends_as_found m c main_arg2 (by decide) (by decide)).trans (V_main_arg2 m c))⟩, h.2⟩) (run_main m ρ)

end Cert.KernelIdeal.Hand

end
-- ==== Proof.Columns.lean ====
/-
  The columns of the kernel's one-hot array: which codebook each of the 856 columns belongs to and which code it
  stands for, as the kernel computes them with 32-bit words from the column's number.
-/
module

public import Idealize.ShloMosaic.Lib.Affine

@[expose] public section

namespace Cert.Columns

open Idealize.ShloMosaic

/-- The codebook of column `c`: the first 34 columns belong to codebook 0, then come 23 columns per codebook. -/
def book (c : Nat) : Nat := if c < 34 then 0 else (c - 34) / 23 + 1

/-- The code column `c` stands for, `-1` for the columns that stand for none. -/
def code (c : Nat) : Int :=
  if c < 24 then c else if c < 34 then -1 else if c < 839 then ((c - 34) % 23 : Nat) else -1

/-- The word the kernel computes for the codebook of the column whose number is the word `x`: the floor of
    `(x - 34) / 23`, plus one, at least zero. -/
def bookWord (x : BitVec 32) : BitVec 32 :=
  let d := IntOp.subi x 34#32
  let q := IntOp.divsi .vector d 23#32
  let sign := IntOp.subi ((IntOp.cmpi .sgt d 0#32).setWidth 32) ((IntOp.cmpi .slt d 0#32).setWidth 32)
  let one := Scalar.subi (Scalar.extui (Scalar.cmpi .sgt 23#32 0#32)) (Scalar.extui (Scalar.cmpi .slt 23#32 0#32))
  let low := IntOp.andi (IntOp.cmpi .ne sign one) (IntOp.cmpi .ne (IntOp.remsi .vector d 23#32) 0#32)
  IntOp.maxsi (IntOp.addi (Scalar.select low (IntOp.subi q 1#32) q) 1#32) 0#32

/-- The word the kernel computes for the code of the column whose number is the word `x`. -/
def codeWord (x : BitVec 32) : BitVec 32 :=
  let n := Scalar.select (Scalar.cmpi .eq 23#32 0#32) 1#32 23#32
  let r := IntOp.remsi .vector (IntOp.subi x 34#32) n
  let low := IntOp.andi (IntOp.xori (IntOp.cmpi .slt r 0#32) (Scalar.cmpi .slt n 0#32)) (IntOp.cmpi .ne r 0#32)
  let m := Scalar.select low (IntOp.addi r n) r
  let u := Scalar.select (IntOp.cmpi .slt x 24#32) x (Scalar.select (IntOp.cmpi .slt x 34#32) 4294967295#32 m)
  Scalar.select (IntOp.cmpi .sge x 839#32) 4294967295#32 u

/-- The kernel's codebook word of a column is the column's codebook. -/
theorem bookWord_eq : ∀ c : Fin 856, bookWord (BitVec.ofNat 32 c.val) = BitVec.ofNat 32 (book c.val) := by
  decide +kernel

/-- The kernel's code word of a column, read signed, is the column's code. -/
theorem codeWord_eq : ∀ c : Fin 856, (codeWord (BitVec.ofNat 32 c.val)).toInt = code c.val := by
  decide +kernel

/-- Every column's codebook is one of the 37. -/
theorem book_lt (c : Fin 856) : book c.val < 37 := by
  have := c.isLt
  unfold book; split <;> omega

/-- The column that stands for code `v` of codebook `b`, for the first 36 codebooks. -/
def column (b v : Nat) : Nat := if b = 0 then v else 34 + 23 * (b - 1) + v

theorem column_lt {b v : Nat} (hb : b < 36) (hv : v ≤ 20) : column b v < 856 := by
  unfold column; split <;> omega

/-- A column stands for the code `w` of its own codebook exactly when it is that code's column. -/
theorem code_eq_iff (w : Nat → Nat) (hw : ∀ b, w b ≤ 20) (c : Fin 856) :
    ((w (book c.val) : Nat) : Int) = code c.val ↔ ∃ b : Fin 36, column b.val (w b.val) = c.val := by
  have hc := c.isLt
  generalize c.val = n at hc ⊢
  have hwb := hw (book n)
  constructor
  · intro h
    refine ⟨⟨book n, ?_⟩, ?_⟩
    · unfold code book at *; split_ifs at * <;> omega
    · show column (book n) (w (book n)) = n
      generalize hv : w (book n) = v at h hwb ⊢
      clear hv
      unfold code column book at *; split_ifs at * <;> omega
  · rintro ⟨⟨b, hb⟩, h⟩
    have h' : column b (w b) = n := h
    have hv := hw b
    have hbk : book n = b := by
      subst h'; generalize w b = v at hv ⊢
      unfold column book; split_ifs <;> omega
    rw [hbk]
    generalize w b = v at h' hv ⊢
    subst h'
    unfold column code; split_ifs <;> omega

/-- Two codebooks of the first 36 never share a column. -/
theorem column_inj {b b' v v' : Nat} (hv : v ≤ 20) (hv' : v' ≤ 20) (h : column b v = column b' v') : b = b' := by
  unfold column at *; split_ifs at * <;> omega

end Cert.Columns
-- ==== Proof.Block.lean ====
/-
  What one block of the kernel computes over the extended reals: the sum, over the codebooks, of one row each.
-/
module

public import proofs.«01_k».proof.Proof.Body
public import proofs.«01_k».proof.Proof.Columns
public import Idealize.ShloMosaic.Lib.Pointwise
public import Idealize.ShloMosaic.Lib.StableHlo.Predicate

@[expose] public section

set_option maxRecDepth 16384

noncomputable section

namespace Cert.KernelIdeal.Block

open Cert.KernelIdeal Cert.KernelIdeal.Gen Cert.KernelIdeal.Hand Cert.Columns
open Idealize.ShloMosaic

/-- A bit widened to a word and read signed is one when the bit is set and zero otherwise. -/
theorem bit_toInt (b : BitVec 1) : (b.setWidth 32).toInt = if b = 1#1 then 1 else 0 := by
  revert b; decide

/-- The array the kernel compares with the columns' codes: at a token and a column, the sum over the codebooks of the
    token's code times the bit that says whether the column belongs to that codebook. -/
theorem pay4_apply (x1 : Vec Ideal S256x37 .i32) (t : Fin 256) (c : Fin 856) :
    k0_pay4 (F := Ideal) x1 (ix2 t c) = ∑ k : Fin 37, (((x1 (ix2 t k)).toInt : ℝ) : EReal)
      * (((((IntOp.cmpi .eq (BitVec.ofNat 32 k.val) (bookWord (BitVec.ofNat 32 c.val))).setWidth 32).toInt : ℝ)) : EReal) := by
  unfold k0_pay4 k0_pay3
  pointwise
  rfl

/-- The one-hot array at a token and a column: whether the summed code is the column's code, as a number. -/
theorem pay5_apply (g : FVec Ideal S256x856 .f32) (t : Fin 256) (c : Fin 856) :
    k0_pay5 (F := Ideal) (iota .tc S37x856 32 [1] iota_S37x856_d1_w32) g (ix2 t c) =
      ((((FloatOps.cmpf (F := Ideal) .oeq (g (ix2 t c)) (((codeWord (BitVec.ofNat 32 c.val)).toInt : ℝ) : EReal)).setWidth 32).toInt : ℝ) : EReal) := by
  unfold k0_pay5
  pointwise
  rfl

/-- The last codebook's one-hot array at a token and a column: whether the code, plus three, is the column's number. -/
theorem pay6_apply (v : IVec S256x37 32) (t : Fin 256) (c : Fin 24) :
    k0_pay6 (F := Ideal) v (ix2 t c) =
      ((((IntOp.cmpi .eq (v (ix2 t 36) + 3#32) (BitVec.ofNat 32 c.val)).setWidth 32).toInt : ℝ) : EReal) := by
  unfold k0_pay6
  pointwise
  rfl

/-- The block's result at a token and a feature: the two products' sums. -/
theorem pay2_apply (a : FVec Ideal S256x856 .bf16) (b : FVec Ideal S256x24 .bf16) (x3 : Vec Ideal S24x3072 .bf16)
    (k : Vec Ideal S856x3072 .bf16) (t : Fin 256) (d : Fin 3072) :
    k0_pay2 (F := Ideal) a b x3 k (ix2 t d) =
      (∑ c : Fin 856, a (ix2 t c) * k (ix2 c d)) + ∑ c : Fin 24, b (ix2 t c) * x3 (ix2 c d) := by
  unfold k0_pay2
  pointwise

/-- The kept rows are the copied rows. -/
theorem pay1_apply (x : Vec Ideal S856x3072 .f32) (c : Fin 856) (d : Fin 3072) :
    k0_pay1 (F := Ideal) x (ix2 c d) = x (ix2 c d) := by
  unfold k0_pay1
  pointwise

/-- Where codebook `k`'s rows begin in the table. -/
def start (k : Nat) : Nat := if k = 0 then 0 else 8194 + 23 * (k - 1)

/-- The table's row for the code word `v` of codebook `k`. -/
def rowOf (k : Fin 37) (v : BitVec 32) : Fin 9022 := Fin.ofNat 9022 (start k.val + v.toNat)

theorem start_add_lt (k : Fin 37) {v : Nat} (hv : v ≤ 20) : start k.val + v < 9022 := by
  have := k.isLt
  unfold start; split_ifs <;> omega

theorem rowOf_val (k : Fin 37) (v : BitVec 32) (hv : v.toNat ≤ 20) : (rowOf k v).val = start k.val + v.toNat :=
  Nat.mod_eq_of_lt (start_add_lt k hv)

theorem toInt_of_small {v : BitVec 32} (hv : v.toNat ≤ 20) : v.toInt = (v.toNat : Int) :=
  StableHlo.Predicate.toInt_eq_toNat_of_lt (by omega)

/-- The summed code at a column is the token's code for the column's codebook. -/
theorem pay4_code (x1 : Vec Ideal S256x37 .i32) (t : Fin 256) (c : Fin 856) :
    k0_pay4 (F := Ideal) x1 (ix2 t c) = (((x1 (ix2 t ⟨book c.val, book_lt c⟩)).toInt : ℝ) : EReal) := by
  rw [pay4_apply, bookWord_eq, Finset.sum_eq_single ⟨book c.val, book_lt c⟩]
  · rw [bit_toInt, if_pos (IntOp.cmpi_eq.2 rfl)]; simp
  · intro k _ hk
    rw [bit_toInt, if_neg]
    · simp
    · intro h
      have h' := congrArg BitVec.toNat (IntOp.cmpi_eq.1 h)
      have hb := book_lt c
      have hk37 := k.isLt
      rw [BitVec.toNat_ofNat, BitVec.toNat_ofNat, Nat.mod_eq_of_lt (by omega), Nat.mod_eq_of_lt (by omega)] at h'
      exact hk (Fin.ext h')
  · intro h; exact absurd (Finset.mem_univ _) h

/-- The one-hot array is one exactly where the column stands for the token's code. -/
theorem onehot_apply (x1 : Vec Ideal S256x37 .i32) (t : Fin 256) (c : Fin 856) :
    k0_pay5 (F := Ideal) (iota .tc S37x856 32 [1] iota_S37x856_d1_w32) (k0_pay4 (F := Ideal) x1) (ix2 t c) =
      if (x1 (ix2 t ⟨book c.val, book_lt c⟩)).toInt = code c.val then 1 else 0 := by
  rw [pay5_apply, pay4_code, bit_toInt, codeWord_eq]
  by_cases h : (x1 (ix2 t ⟨book c.val, book_lt c⟩)).toInt = code c.val
  · rw [if_pos h, h, if_pos]
    · simp
    · show BitVec.ofBool (decide _) = _
      simp
  · rw [if_neg h, if_neg]
    · simp
    · show ¬ BitVec.ofBool (decide _) = _
      simp [h]

/-- The first product: one kept row for each of the first 36 codebooks. -/
theorem first_sum (x1 : Vec Ideal S256x37 .i32) (t : Fin 256) (hx : ∀ k : Fin 37, (x1 (ix2 t k)).toNat ≤ 20) (f : Fin 856 → EReal) :
    ∑ c : Fin 856, k0_pay5 (F := Ideal) (iota .tc S37x856 32 [1] iota_S37x856_d1_w32) (k0_pay4 (F := Ideal) x1) (ix2 t c) * f c =
      ∑ b : Fin 36, f ⟨column b.val (x1 (ix2 t b.castSucc)).toNat, column_lt b.isLt (hx _)⟩ := by
  let w : Nat → Nat := fun n => if h : n < 37 then (x1 (ix2 t ⟨n, h⟩)).toNat else 0
  have hw : ∀ n, w n ≤ 20 := fun n => by
    show (if h : n < 37 then _ else _) ≤ 20
    split
    · exact hx _
    · omega
  have hwb : ∀ k : Fin 37, w k.val = (x1 (ix2 t k)).toNat := fun k => dif_pos k.isLt
  let pos : Fin 36 → Fin 856 := fun b => ⟨column b.val (x1 (ix2 t b.castSucc)).toNat, column_lt b.isLt (hx _)⟩
  have hinj : Function.Injective pos := fun b b' h =>
    Fin.ext (column_inj (hx _) (hx _) (congrArg Fin.val h))
  have hset : (Finset.univ.filter fun c : Fin 856 => (x1 (ix2 t ⟨book c.val, book_lt c⟩)).toInt = code c.val)
      = Finset.univ.map ⟨pos, hinj⟩ := by
    ext c
    rw [Finset.mem_filter, Finset.mem_map, toInt_of_small (hx _), ← hwb ⟨book c.val, book_lt c⟩, code_eq_iff w hw c]
    constructor
    · rintro ⟨-, b, hb⟩
      refine ⟨b, Finset.mem_univ _, Fin.ext ?_⟩
      show column b.val (x1 (ix2 t b.castSucc)).toNat = c.val
      rw [← hwb b.castSucc]; exact hb
    · rintro ⟨b, -, hb⟩
      refine ⟨Finset.mem_univ _, b, ?_⟩
      have := congrArg Fin.val hb
      show column b.val (w b.castSucc.val) = c.val
      rw [hwb b.castSucc]; exact this
  refine (Finset.sum_congr rfl fun c _ => ?_).trans
    ((Finset.sum_filter (fun c : Fin 856 => (x1 (ix2 t ⟨book c.val, book_lt c⟩)).toInt = code c.val) f).symm.trans ?_)
  · rw [onehot_apply, ite_mul, one_mul, zero_mul]
  · rw [hset, Finset.sum_map]
    rfl

/-- The second product: the last codebook's row. -/
theorem last_sum (x1 : Vec Ideal S256x37 .i32) (t : Fin 256) (hx : (x1 (ix2 t 36)).toNat ≤ 20) (f : Fin 24 → EReal) :
    ∑ c : Fin 24, k0_pay6 (F := Ideal) (k0_pay3 (F := Ideal) x1) (ix2 t c) * f c =
      f ⟨(x1 (ix2 t 36)).toNat + 3, by omega⟩ := by
  have h3 : k0_pay3 (F := Ideal) x1 (ix2 t 36) = x1 (ix2 t 36) := by unfold k0_pay3; pointwise
  rw [Finset.sum_eq_single ⟨(x1 (ix2 t 36)).toNat + 3, by omega⟩]
  · rw [pay6_apply, bit_toInt, h3, if_pos]
    · simp
    · refine IntOp.cmpi_eq.2 (BitVec.eq_of_toNat_eq ?_)
      simp [BitVec.toNat_add]
  · intro c _ hc
    rw [pay6_apply, bit_toInt, h3, if_neg]
    · simp
    · intro h
      have h' := congrArg BitVec.toNat (IntOp.cmpi_eq.1 h)
      have := c.isLt
      simp only [BitVec.toNat_add, BitVec.toNat_ofNat] at h'
      refine hc (Fin.ext ?_)
      show c.val = (x1 (ix2 t 36)).toNat + 3
      omega
  · intro h; exact absurd (Finset.mem_univ _) h

/-- The kept row of a code of one of the first 36 codebooks is the table's row for it. -/
theorem kept_row (x : Vec Ideal S9022x3072 .f32) (b : Fin 36) (v : BitVec 32) (hv : v.toNat ≤ 20) (d : Fin 3072) :
    keepOf (F := Ideal) x (ix2 ⟨column b.val v.toNat, column_lt b.isLt hv⟩ d) = x (ix2 (rowOf b.castSucc v) d) := by
  unfold keepOf
  rw [pay1_apply]
  unfold rows
  congr 1
  funext a
  match a with
  | ⟨0, _⟩ =>
    refine Fin.ext ((?_ : (if column b.val v.toNat < 24 then column b.val v.toNat else column b.val v.toNat + 8160) = _).trans
      (rowOf_val b.castSucc v hv).symm)
    show _ = start b.val + v.toNat
    have := b.isLt
    unfold column start; split_ifs <;> omega
  | ⟨1, _⟩ => rfl

/-- THE BLOCK: where the codes are at most 20 and the last codebook's 24 rows are the table's from row 8996 on, the block
    at a token and a feature is the sum over the 37 codebooks of the table's row for the token's code. -/
theorem block_apply (x1 : Vec Ideal S256x37 .i32) (x3 : Vec Ideal S24x3072 .bf16) (x : Vec Ideal S9022x3072 .f32)
    (t : Fin 256) (d : Fin 3072) (hx : ∀ k : Fin 37, (x1 (ix2 t k)).toNat ≤ 20)
    (h3 : ∀ r : Fin 24, x3 (ix2 r d) = x (ix2 ⟨8996 + r.val, by omega⟩ d)) :
    outOf (F := Ideal) x1 x3 (keepOf (F := Ideal) x) (ix2 t d) = ∑ k : Fin 37, x (ix2 (rowOf k (x1 (ix2 t k))) d) := by
  unfold outOf
  rw [pay2_apply, first_sum x1 t hx (fun c => keepOf (F := Ideal) x (ix2 c d)), last_sum x1 t (hx 36) (fun r => x3 (ix2 r d)),
    Fin.sum_univ_castSucc (n := 36)]
  congr 1
  · exact Finset.sum_congr rfl fun b _ => kept_row x b _ (hx _) d
  · rw [h3]
    congr 2
    refine Fin.ext ((?_ : 8996 + ((x1 (ix2 t 36)).toNat + 3) = _).trans (rowOf_val (Fin.last 36) _ (hx _)).symm)
    show _ = start 36 + (x1 (ix2 t 36)).toNat
    unfold start; norm_num; omega

end Cert.KernelIdeal.Block
-- ==== Proof.Array.lean ====
/-
  What the kernel's result array holds at the end: at every token and feature, the sum over the 37 codebooks of the
  table's row for the token's code.
-/
module

public import proofs.«01_k».proof.Proof.Run
public import proofs.«01_k».proof.Proof.Block
public import Idealize.ShloMosaic.Lib.Pipeline.ValueKit
public import Idealize.ShloMosaic.Lib.StableHlo.ReadAt

@[expose] public section

set_option maxRecDepth 16384

noncomputable section

namespace Cert.KernelIdeal.Block

open Cert.KernelIdeal Cert.KernelIdeal.Gen Cert.KernelIdeal.Hand Cert.Columns
open Idealize.ShloMosaic Idealize.ShloMosaic.TcCoe Idealize.SL.Sem
open Idealize.ShloMosaic.Pipeline (Dat)

/-- THE SUM: at a batch, a token and a feature, the sum over the 37 codebooks of the table's row for the token's code. -/
def total (codes : Vec Ideal S8x256x37 .i32) (table : Vec Ideal S9022x3072 .f32) : Vec Ideal S8x256x3072 .f32 := fun i =>
  ∑ k : Fin 37, table (ix2 (rowOf k (codes (ix3 (i 0) (i 1) k))) (i 2))

variable (m : (ℓ : Loc nD τ sig) → Buf (Elt Ideal) ℓ)

/-- Which block each window shows at each point. -/
theorem idx (t : Fin cfg0.N) : win0_0.index t 0 = t.val ∧ win0_0.index t 1 = 0 ∧ win0_1.index t 0 = 0 ∧ win0_1.index t 1 = 0
    ∧ win0_2.index t 0 = t.val ∧ win0_2.index t 1 = 0 := by
  rcases fin_N0 t with rfl | rfl | rfl | rfl | rfl | rfl | rfl | rfl <;> decide +kernel

/-- The flattened codes as the pipeline finds them. -/
theorem V_codes (c : Dev nD) (t : Fin 8) (r : Fin 256) (k : Fin 37) :
    V m c main_v0 (ix2 ⟨t.val * 256 + r.val, by omega⟩ k) = m ((c : Thread nD τ).loc main_arg0) (ix3 t r k) := by
  unfold V V0
  simp only [hostOps0, hostOps0_1, List.flatten_cons, List.flatten_nil, List.append_nil, List.cons_append, List.nil_append]
  after_reads_at

/-- The last codebook's rows as the pipeline finds them. -/
theorem V_last (c : Dev nD) (r : Fin 24) (d : Fin 3072) :
    V m c main_call0_v1 (ix2 r d) = m ((c : Thread nD τ).loc main_arg1) (ix2 ⟨8996 + r.val, by omega⟩ d) := by
  unfold V V0
  simp only [hostOps0, hostOps0_1, List.flatten_cons, List.flatten_nil, List.append_nil, List.cons_append, List.nil_append]
  after_reads_at

/-- The codes' block at a point is that batch's codes. -/
theorem codes_blk (c : Dev nD) (t : Fin cfg0.N) (r : Fin 256) (k : Fin 37) :
    iblk m c 0 t (ix2 r k) = m ((c : Thread nD τ).loc main_arg0) (ix3 ⟨t.val, t.isLt⟩ r k) := by
  refine Eq.trans ?_ (V_codes m c ⟨t.val, t.isLt⟩ r k)
  unfold iblk
  blk_ext [idx t]

/-- The last codebook's block is the table's rows from 8996 on. -/
theorem last_blk (c : Dev nD) (t : Fin cfg0.N) (r : Fin 24) (d : Fin 3072) :
    iblk m c 1 t (ix2 r d) = m ((c : Thread nD τ).loc main_arg1) (ix2 ⟨8996 + r.val, by omega⟩ d) := by
  refine Eq.trans ?_ (V_last m c r d)
  unfold iblk
  blk_ext [idx t]

/-- The result array as the points leave it: batches and tokens flattened. -/
def flat (c : Dev nD) : Vec Ideal S2048x3072 .f32 := fun j =>
  total (m ((c : Thread nD τ).loc main_arg0)) (m ((c : Thread nD τ).loc main_arg1))
    (ix3 ⟨(j 0).val / 256, by have : (j 0).val < 2048 := (j 0).isLt; omega⟩ ⟨(j 0).val % 256, Nat.mod_lt _ (by decide)⟩ (j 1))

/-- Every code is one of 0 to 20. -/
def Drawn : Prop := ∀ (c : Dev nD) (i : S8x256x37.Idx), (m ((c : Thread nD τ).loc main_arg0) i : BitVec 32).toNat ≤ 20

/-- What a point writes back is its block of the result. -/
theorem flushed_eq (hd : Drawn m) (c : Dev nD) (t : Fin cfg0.N) :
    (dats m 0 c).flushed 2 t = (win0_2.blk t).view.read (Elt Ideal) (flat m c) := by
  show (cfg0.win 2).cut (grid0.coords t) ((dats m 0 c).after 2 t) = _
  rw [after_result]
  have key : ∀ (r : Fin 256) (d : Fin 3072),
      outOf (F := Ideal) (iblk m c 0 t) (iblk m c 1 t) (keepOf (V m c main_arg1)) (ix2 r d)
        = total (m ((c : Thread nD τ).loc main_arg0)) (m ((c : Thread nD τ).loc main_arg1)) (ix3 ⟨t.val, t.isLt⟩ r d) := fun r d => by
    rw [V_main_arg1]
    refine (block_apply _ _ _ r d (fun k => ?_) (fun q => last_blk m c t q d)).trans ?_
    · rw [codes_blk]; exact hd c _
    · unfold total
      refine Finset.sum_congr rfl fun k _ => ?_
      rw [codes_blk]
      rfl
  have flat_at : ∀ (r : Fin 256) (d : Fin 3072),
      flat m c (ix2 ⟨t.val * 256 + r.val, by have : t.val < 8 := t.isLt; omega⟩ d)
        = total (m ((c : Thread nD τ).loc main_arg0)) (m ((c : Thread nD τ).loc main_arg1)) (ix3 ⟨t.val, t.isLt⟩ r d) := fun r d => by
    unfold flat
    refine congrArg _ (congrArg₂ (fun a b => ix3 a b d) (Fin.ext ?_) (Fin.ext ?_))
    · show (t.val * 256 + r.val) / 256 = t.val
      have := r.isLt; omega
    · show (t.val * 256 + r.val) % 256 = r.val
      have := r.isLt; omega
  funext y
  have hy : y = ix2 (n0 := 256) (n1 := 3072) (y 0) (y 1) := by
    funext a
    match a with
    | ⟨0, _⟩ => rfl
    | ⟨1, _⟩ => rfl
  refine ((?_ : _ = _).trans ((key (y 0) (y 1)).trans (flat_at (y 0) (y 1)).symm)).trans ?_
  · exact congrArg (outOf (F := Ideal) (iblk m c 0 t) (iblk m c 1 t) (keepOf (V m c main_arg1))) hy
  · show flat m c _ = flat m c (((cfg0.win 2).blk t).view.emb y)
    refine congrArg (flat m c) (funext fun a => Fin.ext ?_)
    match a with
    | ⟨0, _⟩ =>
      show t.val * 256 + (y 0).val = win0_2.index t 0 * 256 + 1 * (y 0).val
      rw [(idx t).2.2.2.2.1]; omega
    | ⟨1, _⟩ =>
      show (y 1).val = win0_2.index t 1 * 3072 + 1 * (y 1).val
      rw [(idx t).2.2.2.2.2]; omega

/-- An index of the result array is in a point's block exactly when its row is among the point's 256. -/
theorem mem_blk (t : Fin cfg0.N) (i : S2048x3072.Idx) :
    i ∈ ((cfg0.win 2).blk t).view.set ↔ t.val * 256 ≤ (i 0 : Nat) ∧ (i 0 : Nat) < t.val * 256 + 256 := by
  show i ∈ ((View.whole main_v1).slice (win0_2.rect t)).set ↔ _
  rw [View.set_slice_whole, Rect.mem_set_unit]
  have h1 : (i 1 : Nat) < 3072 := (i 1).isLt
  obtain ⟨-, -, -, -, e0, e1⟩ := idx t
  constructor
  · intro h
    have h0 : win0_2.index t 0 * 256 ≤ (i 0 : Nat) ∧ (i 0 : Nat) < win0_2.index t 0 * 256 + 256 := h 0
    rw [e0] at h0; exact h0
  · intro h a
    match a with
    | ⟨0, _⟩ =>
      show win0_2.index t 0 * 256 ≤ (i 0 : Nat) ∧ (i 0 : Nat) < win0_2.index t 0 * 256 + 256
      rw [e0]; exact h
    | ⟨1, _⟩ =>
      show win0_2.index t 1 * 3072 ≤ (i 1 : Nat) ∧ (i 1 : Nat) < win0_2.index t 1 * 3072 + 3072
      rw [e1, Nat.zero_mul, Nat.zero_add]; exact ⟨Nat.zero_le _, h1⟩

/-- The eight blocks cover the result array. -/
theorem cover (i : S2048x3072.Idx) : ∃ t : Fin cfg0.N, (cfg0.win 2).flush t = true ∧ i ∈ ((cfg0.win 2).blk t).view.set := by
  have h0 : (i 0 : Nat) < 2048 := (i 0).isLt
  have hN : cfg0.N = 8 := N_0
  have ht : (i 0 : Nat) / 256 < cfg0.N := by omega
  refine ⟨⟨(i 0 : Nat) / 256, ht⟩, flush0_2 _, ?_⟩
  rw [mem_blk]
  dsimp only
  omega

/-- So the result array ends at the sums. -/
theorem final_flat (hd : Drawn m) (c : Dev nD) : (dats m 0 c).arrAt 2 cfg0.N = flat m c :=
  (dats m 0 c).arrAt_eq_of_cover 2 (flat m c) (fun t _ => flushed_eq m hd c t) cover

/-- The last host line turns the flattened result into the result. -/
theorem tail_result (hd : Drawn m) (c : Dev nD) :
    Pipeline.afterTail₀ cfgs (dats m) 0 (V0 m) [hostOps1] c main_v2
      = total (m ((c : Thread nD τ).loc main_arg0)) (m ((c : Thread nD τ).loc main_arg1)) := by
  have h1 : Pipeline.withArrays spec0 c (V0 m c) (fun w => (dats m 0 c).arrAt w cfg0.N) (Proc.devRef .tc main_v1) = flat m c :=
    (Pipeline.withArrays_arr spec0 launch0.win.arr_inj c (V0 m c) _ 2).trans (final_flat m hd c)
  unfold Pipeline.afterTail₀
  funext i
  simp only [hostOps1, List.flatten_cons, List.flatten_nil, List.append_nil]
  after_reads_at
  refine (congrFun h1 _).trans ?_
  unfold flat
  refine congrArg (total _ _) (funext fun a => Fin.ext ?_)
  have h : (i 1).val < 256 := (i 1).isLt
  match a with
  | ⟨0, _⟩ =>
    show ((i 0).val * 256 + (i 1).val) / 256 = (i 0).val
    omega
  | ⟨1, _⟩ =>
    show ((i 0).val * 256 + (i 1).val) % 256 = (i 1).val
    omega
  | ⟨2, _⟩ => rfl

/-- THE RUN: where every code is one of 0 to 20, the result ends at the sums and the arguments are unchanged. -/
theorem run (ρ : Dev nD → PrngReg) (hd : Drawn m) :
    θ_run defs (onTc (τ := τ) (main (F := Ideal))) ⟨m, fun _ => 0, ρ⟩ (fun r => ∀ c : Dev nD,
      r.2.mem ((c.tc : Thread nD τ).loc main_v2)
          = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v2 (Pipeline.mem_restRefs_of main_v2 (by decide) (by decide))).trans (tail_result m hd c),
      ((h.1 c).2 main_arg0 (Pipeline.mem_restRefs_of main_arg0 (by decide) (by decide))).trans
        ((ends_as_found m c main_arg0 (by decide) (by decide)).trans (V_main_arg0 m c)),
      ((h.1 c).2 main_arg1 (Pipeline.mem_restRefs_of main_arg1 (by decide) (by decide))).trans
        ((ends_as_found m c main_arg1 (by decide) (by decide)).trans (V_main_arg1 m c)),
      ((h.1 c).2 main_arg2 (Pipeline.mem_restRefs_of main_arg2 (by decide) (by decide))).trans
        ((ends_as_found m c main_arg2 (by decide) (by decide)).trans (V_main_arg2 m c))⟩) (run_main m ρ)

end Cert.KernelIdeal.Block
-- ==== Proof.Drawn.lean ====
/-
  What the precondition says of the arguments: every code lies below 21, and the offsets are the codebooks' first rows.
-/
module

public import proofs.«01_k».proof.Defs
public import proofs.«01_k».proof.Proof.Block
public import proofs.«01_k».proof.Proof.Gen.Pre_drawn
public import Idealize.ShloMosaic.Lib.ReduceAll

@[expose] public section

set_option maxRecDepth 16384

noncomputable section

namespace Cert.Pre_drawn.Read

open Cert.Pre_drawn Cert.Pre_drawn.Gen Cert.KernelIdeal.Block
open Idealize.ShloMosaic

/-- The word the precondition computes for a codebook is the number of the codebook's first row. -/
theorem start_word (k : Fin 37) : (if IntOp.cmpi .eq (BitVec.ofNat 32 k.val) 0#32 = 1#1 then 0#32
    else IntOp.addi 8194#32 (IntOp.muli 23#32 (IntOp.subi (BitVec.ofNat 32 k.val) 1#32))) = BitVec.ofNat 32 (start k.val) := by
  revert k; decide +kernel

/-- A word that is at least 0 and below 21, read signed, is at most 20 read unsigned. -/
theorem small_of_signed (v : BitVec 32) (h0 : (0#32 : BitVec 32).toInt ≤ v.toInt) (h1 : v.toInt < (21#32 : BitVec 32).toInt) :
    v.toNat ≤ 20 := by
  have e0 : (0#32 : BitVec 32).toInt = 0 := by decide
  have e1 : (21#32 : BitVec 32).toInt = 21 := by decide
  rw [e0] at h0
  rw [e1] at h1
  rw [BitVec.toInt_eq_toNat_cond] at h0 h1
  have := v.isLt
  split_ifs at h0 h1 <;> omega

instance : Subsingleton S_.Idx := ⟨fun a b => funext fun d => d.elim0⟩

/-- Where the precondition's word is one, every code is at most 20 and each offset is its codebook's first row. -/
theorem of_fn (codes : IVec S8x256x37 32) (table : FVec Ideal S9022x3072 .f32) (offs : IVec S37 32)
    (h : fn (F := Ideal) codes table offs = fun _ => 1#1) :
    (∀ i, (codes i).toNat ≤ 20) ∧ ∀ k : Fin 37, offs (ix1 k) = BitVec.ofNat 32 (start k.val) := by
  have h' := congrFun h (fun d => d.elim0)
  unfold fn fn_part1 at h'
  obtain ⟨ha, hb⟩ := IntOp.andi_eq_one.1 h'
  refine ⟨fun i => ?_, fun k => ?_⟩
  · have hi := Host.reduce_andi_all _ _ _ _ _ ha i
    obtain ⟨h0, h1⟩ := IntOp.andi_eq_one.1 hi
    exact small_of_signed _ (IntOp.cmpi_sge.1 h0) (IntOp.cmpi_slt.1 h1)
  · have hk := Host.reduce_andi_all _ _ _ _ _ hb (ix1 k)
    exact (IntOp.cmpi_eq.1 hk).trans (start_word k)

end Cert.Pre_drawn.Read

end
-- ==== Proof.Reference.lean ====
/-
  What the reference computes over the extended reals: under the precondition, the sum over the codebooks of the
  table's row for the token's code.
-/
module

public import proofs.«01_k».proof.Proof.Array
public import proofs.«01_k».proof.Proof.Gen.ReferenceIdeal
public import proofs.«01_k».proof.Proof.Gen.ReferenceIdeal.Run
public import Idealize.ShloMosaic.Lib.ReduceAll
public import Idealize.ShloMosaic.Lib.Pointwise
public import Idealize.ShloMosaic.PureOps.Ideal.Laws

@[expose] public section

set_option maxRecDepth 16384

noncomputable section

namespace Cert.ReferenceIdeal.Sum

open Cert.ReferenceIdeal Cert.ReferenceIdeal.Gen Cert.KernelIdeal.Block
open Idealize.ShloMosaic Idealize.ShloMosaic.TcCoe Idealize.SL.Sem

/-- The row numbers before wrapping: each code plus its codebook's offset. -/
def words (codes : IVec S8x256x37 32) (offs : IVec S37 32) : IVec S8x256x37 32 :=
  addi codes (broadcastInDim S8x256x37 ![0, 1, 2] bcast_S1x1x37_S8x256x37_0_1_2 (broadcastInDim S1x1x37 ![2] bcast_S37_S1x1x37_2 offs))

/-- The row numbers the reference looks up: a negative one counts from the table's end. -/
def places (codes : IVec S8x256x37 32) (offs : IVec S37 32) : IVec S8x256x37x1 32 :=
  broadcastInDim S8x256x37x1 ![0, 1, 2] bcast_S8x256x37_S8x256x37x1_0_1_2
    (select (cmpi .slt (words codes offs) (broadcastInDim S8x256x37 ![] bcast_S_S8x256x37 (constantI S_ 32 0#32)))
      (addi (words codes offs) (broadcastInDim S8x256x37 ![] bcast_S_S8x256x37 (constantI S_ 32 9022#32))) (words codes offs))

/-- Whether each row number lies in the table. -/
def inside (codes : IVec S8x256x37 32) (offs : IVec S37 32) : IVec S8x256x37 1 :=
  Host.reduce IntOp.andi (andi (cmpi .sge (places codes offs) (broadcastInDim S8x256x37x1 ![] bcast_S_S8x256x37x1 (constantI S_ 32 0#32)))
    (cmpi .sle (places codes offs) (broadcastInDim S8x256x37x1 ![0, 1, 2, 3] bcast_S1x1x1x1_S8x256x37x1_0_1_2_3
      (broadcastInDim S1x1x1x1 ![3] bcast_S1_S1x1x1x1_3 (constantI S1 32 9021#32)))))
    (constantI S_ 1 1#1) reducesTo_S8x256x37x1_S8x256x37_d3 h_S_

/-- The rows looked up. -/
def rows (codes : IVec S8x256x37 32) (table : FVec Ideal S9022x3072 .f32) (offs : IVec S37 32) : FVec Ideal S8x256x37x3072 .f32 :=
  select (broadcastInDim S8x256x37x3072 ![0, 1, 2] bcast_S8x256x37_S8x256x37x3072_0_1_2 (inside codes offs))
    (Host.gather gather_S9022x3072_S8x256x37x1_S8x256x37x3072_3_0_n_n_0_3_13072 table (places codes offs))
    (broadcastInDim S8x256x37x3072 ![] bcast_S_S8x256x37x3072 (constant S_ .f32 0x7FC00000#32))

/-- The reference's result: the rows looked up, summed over the codebooks. -/
def out (codes : IVec S8x256x37 32) (table : FVec Ideal S9022x3072 .f32) (offs : IVec S37 32) : FVec Ideal S8x256x3072 .f32 :=
  Host.reduceAdd (rows codes table offs) (constant S_ .f32 0x00000000#32) reducesTo_S8x256x37x3072_S8x256x3072_d2 h_S_

/-- The lookup at a batch, a token, a codebook and a feature: the table's row of the number held there. -/
theorem gather_apply (table : FVec Ideal S9022x3072 .f32) (p : IVec S8x256x37x1 32) (b : Fin 8) (t : Fin 256) (k : Fin 37) (d : Fin 3072)
    (n : Fin 9022) (hn : (p (ix4 b t k (0 : Fin 1))).toInt.toNat = n.val) :
    Host.gather gather_S9022x3072_S8x256x37x1_S8x256x37x3072_3_0_n_n_0_3_13072 table p (ix4 b t k d) = table (ix2 n d) := by
  unfold Host.gather
  refine congrArg table (funext fun a => Fin.ext ?_)
  have hb : ∀ a, a ∉ gather_S9022x3072_S8x256x37x1_S8x256x37x3072_3_0_n_n_0_3_13072.operandBatchingDims := fun a => List.not_mem_nil
  show GatherDims.start _ (ix4 b t k d) p a + GatherDims.batchCoord _ (ix4 b t k d) a + GatherDims.offCoord _ (ix4 b t k d) a = _
  rw [GatherDims.batchCoord_eq_zero _ _ _ (hb a)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S9022x3072.rank) ∈ gather_S9022x3072_S8x256x37x1_S8x256x37x3072_3_0_n_n_0_3_13072.startIndexMap from List.mem_singleton.mpr rfl)]
    have hs : gather_S9022x3072_S8x256x37x1_S8x256x37x3072_3_0_n_n_0_3_13072.siIdx (ix4 b t k d)
        ⟨List.idxOf (⟨0, by decide⟩ : Fin S9022x3072.rank) gather_S9022x3072_S8x256x37x1_S8x256x37x3072_3_0_n_n_0_3_13072.startIndexMap,
          List.idxOf_lt_length_iff.2 (List.mem_singleton.mpr rfl)⟩ = ix4 b t k (0 : Fin 1) := by
      funext e
      refine Fin.ext ?_
      match e with
      | ⟨0, _⟩ => rfl
      | ⟨1, _⟩ => rfl
      | ⟨2, _⟩ => rfl
      | ⟨3, _⟩ => rfl
    rw [hs, hn]
    show min n.val (9022 - 1) + 0 + 0 = n.val
    have := n.isLt
    omega
  | ⟨1, _⟩ =>
    have h0 : GatherDims.start gather_S9022x3072_S8x256x37x1_S8x256x37x3072_3_0_n_n_0_3_13072 (ix4 b t k d) p (1 : Fin 2) = 0 := by
      unfold GatherDims.start
      exact dif_neg (fun h => absurd (List.mem_singleton.mp h) (by decide))
    refine (congrArg (fun z => z + 0 + _) h0).trans ?_
    rw [Nat.zero_add]
    unfold GatherDims.offCoord
    rw [dif_pos ((GatherDims.mem_sKept _ _).mpr ⟨fun h => absurd (Fin.ext_iff.mp (List.mem_singleton.mp h)) Nat.one_ne_zero, hb _⟩)]
    rfl

section

variable (codes : IVec S8x256x37 32) (table : FVec Ideal S9022x3072 .f32) (offs : IVec S37 32)
  (hc : ∀ i, (codes i).toNat ≤ 20) (ho : ∀ k : Fin 37, offs (ix1 k) = BitVec.ofNat 32 (start k.val))

include hc ho

/-- The row number at a batch, a token and a codebook is the codebook's first row plus the code. -/
theorem words_toNat (b : Fin 8) (t : Fin 256) (k : Fin 37) :
    (words codes offs (ix3 b t k)).toNat = start k.val + (codes (ix3 b t k)).toNat := by
  have e : words codes offs (ix3 b t k) = codes (ix3 b t k) + offs (ix1 k) := by
    unfold words
    pointwise
    rfl
  have h1 := start_add_lt k (hc (ix3 b t k))
  rw [e, ho, BitVec.toNat_add, BitVec.toNat_ofNat]
  omega

/-- It is not negative, so it is the one looked up. -/
theorem places_apply (b : Fin 8) (t : Fin 256) (k : Fin 37) (z : Fin 1) : places codes offs (ix4 b t k z) = words codes offs (ix3 b t k) := by
  have e : places codes offs (ix4 b t k z) = if IntOp.cmpi .slt (words codes offs (ix3 b t k)) 0#32 = 1#1 then
      IntOp.addi (words codes offs (ix3 b t k)) 9022#32 else words codes offs (ix3 b t k) := by
    unfold places
    pointwise
    rfl
  have h0 := words_toNat codes offs hc ho b t k
  have h1 := start_add_lt k (hc (ix3 b t k))
  rw [e]
  have hn : ¬ IntOp.cmpi .slt (words codes offs (ix3 b t k)) 0#32 = 1#1 := by
    rw [IntOp.cmpi_slt, StableHlo.Predicate.toInt_eq_toNat_of_lt (by omega)]
    simp
  exact if_neg hn

/-- The number looked up, read signed. -/
theorem places_toInt (b : Fin 8) (t : Fin 256) (k : Fin 37) (z : Fin 1) :
    (places codes offs (ix4 b t k z)).toInt = ((start k.val + (codes (ix3 b t k)).toNat : Nat) : Int) := by
  have h0 := words_toNat codes offs hc ho b t k
  have h1 := start_add_lt k (hc (ix3 b t k))
  rw [places_apply codes offs hc ho, StableHlo.Predicate.toInt_eq_toNat_of_lt (by omega), h0]

/-- Every row number lies in the table. -/
theorem inside_apply (j : S8x256x37.Idx) : inside codes offs j = 1#1 := by
  unfold inside
  refine Host.reduce_andi_one _ _ _ _ _ rfl fun i => ?_
  obtain ⟨b, t, k, z, rfl⟩ : ∃ (b : Fin 8) (t : Fin 256) (k : Fin 37) (z : Fin 1), i = ix4 b t k z :=
    ⟨i 0, i 1, i 2, i 3, funext fun
      | ⟨0, _⟩ => rfl
      | ⟨1, _⟩ => rfl
      | ⟨2, _⟩ => rfl
      | ⟨3, _⟩ => rfl⟩
  have hp := places_toInt codes offs hc ho b t k z
  have h1 := start_add_lt k (hc (ix3 b t k))
  refine IntOp.andi_eq_one.2 ⟨IntOp.cmpi_sge.2 ?_, IntOp.cmpi_sle.2 ?_⟩
  · rw [hp]
    exact Int.natCast_nonneg _
  · rw [hp]
    have e : (9021#32 : BitVec 32).toInt = 9021 := by decide
    refine le_trans ?_ (le_of_eq e.symm)
    exact_mod_cast Nat.le_of_lt_succ h1

/-- The row looked up for a batch, a token and a codebook is the table's row for the code. -/
theorem rows_apply (b : Fin 8) (t : Fin 256) (k : Fin 37) (d : Fin 3072) :
    rows codes table offs (ix4 b t k d) = table (ix2 (rowOf k (codes (ix3 b t k))) d) := by
  have hm : broadcastInDim S8x256x37x3072 ![0, 1, 2] bcast_S8x256x37_S8x256x37x3072_0_1_2 (inside codes offs) (ix4 b t k d) = 1#1 :=
    inside_apply codes offs hc ho _
  unfold rows select
  rw [hm]
  unfold Scalar.select
  rw [if_pos (show (1#1 : BitVec 1) = 1 from rfl)]
  refine gather_apply table _ b t k d _ ?_
  rw [places_toInt codes offs hc ho, rowOf_val k _ (hc _)]
  exact Int.toNat_natCast _

/-- The reference's result is the sum over the codebooks of the table's rows for the codes. -/
theorem out_eq : out codes table offs = total codes table := by
  funext i
  have hr : Shape.Reduces S8x256x37x3072 [2] S8x256x3072 := by decide
  have e : out codes table offs i = Ideal.ofBits .f32 0x00000000#32 + ∑ k : Fin 37, rows codes table offs (hr.lift i k) :=
    Ideal.hostReduceAdd_single reducesTo_S8x256x37x3072_S8x256x3072_d2 hr _ _ i
  rw [e, Ideal.ofBits_zero_f32, zero_add]
  unfold total
  refine Finset.sum_congr rfl fun k _ => ?_
  have hl : hr.lift i k = ix4 (i 0) (i 1) k (i 2) := by
    funext a
    match a with
    | ⟨0, _⟩ => rfl
    | ⟨1, _⟩ => rfl
    | ⟨2, _⟩ => rfl
    | ⟨3, _⟩ => rfl
  rw [hl]
  exact rows_apply codes table offs hc ho (i 0) (i 1) k (i 2)

end

variable (m : (ℓ : Loc nD τ sig) → Buf (Elt Ideal) ℓ)

/-- The reference's run ends with its result array at the value above, the arguments as they were. -/
theorem run (ρ : Dev nD → PrngReg) : θ_run defs (onTc main) ⟨m, fun _ => 0, ρ⟩ (fun r => ∀ c : Dev nD,
    r.2.mem ((c.tc : Thread nD τ).loc main_v4)
      = out (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  Value.run m ρ

end Cert.ReferenceIdeal.Sum

end
-- ==== Proof.lean ====
/-
  The proof of every claim: the frames of the kernel's two readings and of the reference, and the equality of the
  kernel's result with the reference's over the extended reals.
-/
module

public import proofs.«01_k».proof.Defs
public import proofs.«01_k».proof.Proof.Run
public import proofs.«01_k».proof.Proof.Bits.Run
public import proofs.«01_k».proof.Proof.Array
public import proofs.«01_k».proof.Proof.Drawn
public import proofs.«01_k».proof.Proof.Reference
public import proofs.«01_k».proof.Proof.Gen.ReferenceIdeal
public import proofs.«01_k».proof.Proof.Gen.ReferenceIdeal.Run
public import proofs.«01_k».proof.Proof.Gen.Pre_drawn
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its arguments as they were and no signal outstanding. -/
theorem reference_frame [Cert.ReferenceIdeal.Facts] : Cert.quiescent_ReferenceIdeal  := fun m ρ _ =>
  (θ_run _ _ _).mono (fun _ h => ⟨fun c => (h c).2, sem_eq_zero_of_no_sems rfl _⟩) (Cert.ReferenceIdeal.Value.run m ρ)

/-- Under the precondition the kernel and the reference end with the same array: the sum, over the codebooks, of the
    table's rows for the codes. -/
theorem equal : Cert.algebraic_KernelIdeal_ReferenceIdeal_pre_drawn
    (hKernelIdeal := Cert.KernelIdeal.Gen.facts) (hReferenceIdeal := Cert.ReferenceIdeal.Gen.facts) (hPre_drawn := Cert.Pre_drawn.Gen.facts) := by
  intro m g m' g' hp hm
  have hd := fun c => Cert.Pre_drawn.Read.of_fn _ _ _ (hp c)
  refine ⟨_, Cert.KernelIdeal.Block.run m g fun c => (hd c).1, (θ_run _ _ _).mono (fun r h c => ⟨(h c).1.trans ?_, (h c).2⟩) (Cert.ReferenceIdeal.Sum.run m' g')⟩
  rw [(hm c).1, (hm c).2.1, (hm c).2.2]
  exact Cert.ReferenceIdeal.Sum.out_eq _ _ _ (hd c).1 (hd c).2

/-- Every claim. -/
theorem claim : Cert.Claim :=
  ⟨Cert.Kernel.Gen.facts, Cert.KernelIdeal.Gen.facts, Cert.ReferenceIdeal.Gen.facts, Cert.Pre_drawn.Gen.facts,
    fun m ρ _ => Cert.Kernel.Hand.frame m ρ, fun m ρ _ => Cert.KernelIdeal.Hand.frame m ρ, fun m ρ _ => Cert.KernelIdeal.Hand.frame m ρ,
    reference_frame, fun m ρ _ => reference_frame m ρ trivial, trivial, equal⟩

end Cert.Proof

end
